-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_psi_is_local [hPre_psi_is_local : Cert.Pre_psi_is_local.Facts] (m : (ℓ : Loc Cert.KernelIdeal.nD Cert.KernelIdeal.τ Cert.KernelIdeal.sig) → Buf (Elt Ideal) ℓ) : Prop :=
  ∀ c : Dev Cert.KernelIdeal.nD,
    (Cert.Pre_psi_is_local.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_psi_is_local [hPre_psi_is_local : Cert.Pre_psi_is_local.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_psi_is_local.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_psi_is_local [hKernelIdeal : Cert.KernelIdeal.Facts] [hPre_psi_is_local : Cert.Pre_psi_is_local.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_psi_is_local m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_psi_is_local [hReferenceIdeal : Cert.ReferenceIdeal.Facts] [hPre_psi_is_local : Cert.Pre_psi_is_local.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_psi_is_local m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_psi_is_local [hKernelIdeal : Cert.KernelIdeal.Facts] [hReferenceIdeal : Cert.ReferenceIdeal.Facts] [hPre_psi_is_local : Cert.Pre_psi_is_local.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_psi_is_local m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_psi_is_local : Cert.Pre_psi_is_local.Facts),
    quiescent_Kernel (hKernel := hKernel)
    ∧ quiescent_KernelIdeal (hKernelIdeal := hKernelIdeal)
    ∧ quiescent_KernelIdeal_pre_psi_is_local (hKernelIdeal := hKernelIdeal) (hPre_psi_is_local := hPre_psi_is_local)
    ∧ quiescent_ReferenceIdeal (hReferenceIdeal := hReferenceIdeal)
    ∧ quiescent_ReferenceIdeal_pre_psi_is_local (hReferenceIdeal := hReferenceIdeal) (hPre_psi_is_local := hPre_psi_is_local)
    ∧ preserves_Kernel_KernelIdeal
    ∧ algebraic_KernelIdeal_ReferenceIdeal_pre_psi_is_local (hKernelIdeal := hKernelIdeal) (hReferenceIdeal := hReferenceIdeal) (hPre_psi_is_local := hPre_psi_is_local)
-- ==== Pre_psi_is_local.lean ====
abbrev S2x64x64x128 : Shape := ⟨4, ![2, 64, 64, 128]⟩
abbrev S3x32x8192 : Shape := ⟨3, ![3, 32, 8192]⟩
abbrev S64x1 : Shape := ⟨2, ![64, 1]⟩
abbrev S64x64x3 : Shape := ⟨3, ![64, 64, 3]⟩
abbrev S64 : Shape := ⟨1, ![64]⟩
abbrev S1x32x1x1 : Shape := ⟨4, ![1, 32, 1, 1]⟩
abbrev S1x1x64x1 : Shape := ⟨4, ![1, 1, 64, 1]⟩
abbrev S_ : Shape := ⟨0, ![]⟩
abbrev S1x32x64x1 : Shape := ⟨4, ![1, 32, 64, 1]⟩
abbrev S3x32x64x128 : Shape := ⟨4, ![3, 32, 64, 128]⟩

class Facts : Prop where
  bcast_S_S1x32x1x1 : S_.BroadcastsInDim S1x32x1x1 (![] : Fin 0 → Fin S1x32x1x1.rank)
  bcast_S1x1x64x1_S1x32x64x1_0_1_2_3 : S1x1x64x1.BroadcastsInDim S1x32x64x1 (![0, 1, 2, 3] : Fin 4 → Fin S1x32x64x1.rank)
  bcast_S1x32x1x1_S1x32x64x1_0_1_2_3 : S1x32x1x1.BroadcastsInDim S1x32x64x1 (![0, 1, 2, 3] : Fin 4 → Fin S1x32x64x1.rank)
  shapeCasts_S3x32x8192_S3x32x64x128 : S3x32x8192.ShapeCasts S3x32x64x128
  bcast_S_S3x32x64x128 : S_.BroadcastsInDim S3x32x64x128 (![] : Fin 0 → Fin S3x32x64x128.rank)
  bcast_S1x32x64x1_S3x32x64x128_0_1_2_3 : S1x32x64x1.BroadcastsInDim S3x32x64x128 (![0, 1, 2, 3] : Fin 4 → Fin S3x32x64x128.rank)

variable [Facts]

def fn_part1 {F : FTy → Type} [FloatOps F] (main_arg1 : FVec F S3x32x8192 .f32) (main_v18 : IVec S1x32x64x1 1) : IVec S3x32x64x128 1 :=
  let main_v19 : FVec F S3x32x64x128 .f32 := shapeCast S3x32x64x128 main_arg1 shapeCasts_S3x32x8192_S3x32x64x128
  let main_cst : FVec F S_ .f32 := constant S_ .f32 0x00000000#32
  let main_v20 : FVec F S3x32x64x128 .f32 := broadcastInDim S3x32x64x128 ![] bcast_S_S3x32x64x128 main_cst
  let main_v21 : IVec S3x32x64x128 1 := cmpf .oeq main_v19 main_v20
  let main_v22 : IVec S3x32x64x128 1 := broadcastInDim S3x32x64x128 ![0, 1, 2, 3] bcast_S1x32x64x1_S3x32x64x128_0_1_2_3 main_v18
  let main_v23 : IVec S3x32x64x128 1 := ori main_v22 main_v21
  main_v23

def fn {F : FTy → Type} [FloatOps F] (main_arg0 : FVec F S2x64x64x128 .f32) (main_arg1 : FVec F S3x32x8192 .f32) (main_arg2 : FVec F S64x1 .f32) (main_arg3 : FVec F S64x64x3 .f32) (main_arg4 : FVec F S64 .f32) : IVec S3x32x64x128 1 :=
  let main_v0 : IVec S1x32x1x1 32 := iotaInDim S1x32x1x1 32 1
  let main_v1 : IVec S1x1x64x1 32 := iotaInDim S1x1x64x1 32 2
  let main_c : IVec S_ 32 := constantI S_ 32 2#32
  let main_v2 : IVec S1x32x1x1 32 := broadcastInDim S1x32x1x1 ![] bcast_S_S1x32x1x1 main_c
  let main_v3 : IVec S1x32x1x1 32 := muli main_v2 main_v0
  let main_c_0 : IVec S_ 32 := constantI S_ 32 2#32
  let main_v4 : IVec S1x32x1x1 32 := broadcastInDim S1x32x1x1 ![] bcast_S_S1x32x1x1 main_c_0
  let main_v5 : IVec S1x32x1x1 32 := subi main_v3 main_v4
  let main_c_1 : IVec S_ 32 := constantI S_ 32 58#32
  let main_v6 : IVec S1x32x1x1 32 := broadcastInDim S1x32x1x1 ![] bcast_S_S1x32x1x1 main_c_1
  let main_v7 : IVec S1x32x1x1 32 := minsi main_v5 main_v6
  let main_c_2 : IVec S_ 32 := constantI S_ 32 0#32
  let main_v8 : IVec S1x32x1x1 32 := broadcastInDim S1x32x1x1 ![] bcast_S_S1x32x1x1 main_c_2
  let main_v9 : IVec S1x32x1x1 32 := maxsi main_v7 main_v8
  let main_v10 : IVec S1x32x64x1 32 := broadcastInDim S1x32x64x1 ![0, 1, 2, 3] bcast_S1x1x64x1_S1x32x64x1_0_1_2_3 main_v1
  let main_v11 : IVec S1x32x64x1 32 := broadcastInDim S1x32x64x1 ![0, 1, 2, 3] bcast_S1x32x1x1_S1x32x64x1_0_1_2_3 main_v9
  let main_v12 : IVec S1x32x64x1 1 := cmpi .sge main_v10 main_v11
  let main_c_3 : IVec S_ 32 := constantI S_ 32 6#32
  let main_v13 : IVec S1x32x1x1 32 := broadcastInDim S1x32x1x1 ![] bcast_S_S1x32x1x1 main_c_3
  let main_v14 : IVec S1x32x1x1 32 := addi main_v9 main_v13
  let main_v15 : IVec S1x32x64x1 32 := broadcastInDim S1x32x64x1 ![0, 1, 2, 3] bcast_S1x1x64x1_S1x32x64x1_0_1_2_3 main_v1
  let main_v16 : IVec S1x32x64x1 32 := broadcastInDim S1x32x64x1 ![0, 1, 2, 3] bcast_S1x32x1x1_S1x32x64x1_0_1_2_3 main_v14
  let main_v17 : IVec S1x32x64x1 1 := cmpi .slt main_v15 main_v16
  let main_v18 : IVec S1x32x64x1 1 := andi main_v12 main_v17
  fn_part1 (F := F) main_arg1 main_v18
-- ==== Kernel.lean ====
abbrev S2x64x64x128 : Shape := ⟨4, ![2, 64, 64, 128]⟩
abbrev S3x32x8192 : Shape := ⟨3, ![3, 32, 8192]⟩
abbrev S64x1 : Shape := ⟨2, ![64, 1]⟩
abbrev S64x64x3 : Shape := ⟨3, ![64, 64, 3]⟩
abbrev S64 : Shape := ⟨1, ![64]⟩
abbrev S32x6 : Shape := ⟨2, ![32, 6]⟩
abbrev S128x8192 : Shape := ⟨2, ![128, 8192]⟩
abbrev S3x32x64x128 : Shape := ⟨4, ![3, 32, 64, 128]⟩
abbrev S1x32x6x1 : Shape := ⟨4, ![1, 32, 6, 1]⟩
abbrev S_ : Shape := ⟨0, ![]⟩
abbrev S32x6x1 : Shape := ⟨3, ![32, 6, 1]⟩
abbrev S1 : Shape := ⟨1, ![1]⟩
abbrev S1x1x1 : Shape := ⟨3, ![1, 1, 1]⟩
abbrev S3x32x6x128 : Shape := ⟨4, ![3, 32, 6, 128]⟩
abbrev S32x6x2 : Shape := ⟨3, ![32, 6, 2]⟩
abbrev S2x2 : Shape := ⟨2, ![2, 2]⟩
abbrev S3x64x64 : Shape := ⟨3, ![3, 64, 64]⟩
abbrev S3x1x64x1x64 : Shape := ⟨5, ![3, 1, 64, 1, 64]⟩
abbrev S1x2x1x2x1 : Shape := ⟨5, ![1, 2, 1, 2, 1]⟩
abbrev S3x2x64x2x64 : Shape := ⟨5, ![3, 2, 64, 2, 64]⟩
abbrev S3x128x128 : Shape := ⟨3, ![3, 128, 128]⟩
abbrev S1x64 : Shape := ⟨2, ![1, 64]⟩
abbrev S2x64 : Shape := ⟨2, ![2, 64]⟩
abbrev S128 : Shape := ⟨1, ![128]⟩
abbrev S128x1 : Shape := ⟨2, ![128, 1]⟩
abbrev S128x32x64 : Shape := ⟨3, ![128, 32, 64]⟩
abbrev S1x1x1x128 : Shape := ⟨4, ![1, 1, 1, 128]⟩
abbrev S1x128 : Shape := ⟨2, ![1, 128]⟩
abbrev S64x128 : Shape := ⟨2, ![64, 128]⟩
abbrev S64x768 : Shape := ⟨2, ![64, 768]⟩
abbrev S192x768 : Shape := ⟨2, ![192, 768]⟩
abbrev S128x768 : Shape := ⟨2, ![128, 768]⟩
abbrev S192x128 : Shape := ⟨2, ![192, 128]⟩
abbrev S1x128x128 : Shape := ⟨3, ![1, 128, 128]⟩
abbrev S128x128 : Shape := ⟨2, ![128, 128]⟩
abbrev S128x64 : Shape := ⟨2, ![128, 64]⟩
abbrev S128x1x64 : Shape := ⟨3, ![128, 1, 64]⟩
abbrev S2x64x32x64 : Shape := ⟨4, ![2, 64, 32, 64]⟩

abbrev nBuf : Space → Nat
  | .hbm => 71
  | .vmem => 5
  | .smem => 0
  | _ => 0

abbrev bufTy : (tb : Table) → Fin (tcTables nBuf tb) → BufTy
  | .hbm, ⟨0, _⟩ => ⟨S2x64x64x128, .f32⟩
  | .hbm, ⟨1, _⟩ => ⟨S3x32x8192, .f32⟩
  | .hbm, ⟨2, _⟩ => ⟨S64x1, .f32⟩
  | .hbm, ⟨3, _⟩ => ⟨S64x64x3, .f32⟩
  | .hbm, ⟨4, _⟩ => ⟨S64, .f32⟩
  | .hbm, ⟨5, _⟩ => ⟨S32x6, .i32⟩
  | .hbm, ⟨6, _⟩ => ⟨S128x8192, .f32⟩
  | .hbm, ⟨7, _⟩ => ⟨S128x8192, .bf16⟩
  | .hbm, ⟨8, _⟩ => ⟨S3x32x64x128, .f32⟩
  | .hbm, ⟨9, _⟩ => ⟨S1x32x6x1, .i32⟩
  | .hbm, ⟨10, _⟩ => ⟨S_, .i32⟩
  | .hbm, ⟨11, _⟩ => ⟨S1x32x6x1, .i32⟩
  | .hbm, ⟨12, _⟩ => ⟨S1x32x6x1, .i1⟩
  | .hbm, ⟨13, _⟩ => ⟨S_, .i32⟩
  | .hbm, ⟨14, _⟩ => ⟨S1x32x6x1, .i32⟩
  | .hbm, ⟨15, _⟩ => ⟨S1x32x6x1, .i32⟩
  | .hbm, ⟨16, _⟩ => ⟨S1x32x6x1, .i32⟩
  | .hbm, ⟨17, _⟩ => ⟨S32x6x1, .i32⟩
  | .hbm, ⟨18, _⟩ => ⟨S1, .i32⟩
  | .hbm, ⟨19, _⟩ => ⟨S_, .i32⟩
  | .hbm, ⟨20, _⟩ => ⟨S32x6x1, .i32⟩
  | .hbm, ⟨21, _⟩ => ⟨S32x6x1, .i1⟩
  | .hbm, ⟨22, _⟩ => ⟨S1x1x1, .i32⟩
  | .hbm, ⟨23, _⟩ => ⟨S32x6x1, .i32⟩
  | .hbm, ⟨24, _⟩ => ⟨S32x6x1, .i1⟩
  | .hbm, ⟨25, _⟩ => ⟨S32x6x1, .i1⟩
  | .hbm, ⟨26, _⟩ => ⟨S_, .i1⟩
  | .hbm, ⟨27, _⟩ => ⟨S32x6, .i1⟩
  | .hbm, ⟨28, _⟩ => ⟨S3x32x6x128, .f32⟩
  | .hbm, ⟨29, _⟩ => ⟨S3x32x6x128, .i1⟩
  | .hbm, ⟨30, _⟩ => ⟨S_, .f32⟩
  | .hbm, ⟨31, _⟩ => ⟨S3x32x6x128, .f32⟩
  | .hbm, ⟨32, _⟩ => ⟨S3x32x6x128, .f32⟩
  | .hbm, ⟨33, _⟩ => ⟨S_, .i32⟩
  | .hbm, ⟨34, _⟩ => ⟨S32x6, .i32⟩
  | .hbm, ⟨35, _⟩ => ⟨S32x6, .i1⟩
  | .hbm, ⟨36, _⟩ => ⟨S_, .i32⟩
  | .hbm, ⟨37, _⟩ => ⟨S32x6, .i32⟩
  | .hbm, ⟨38, _⟩ => ⟨S32x6, .i32⟩
  | .hbm, ⟨39, _⟩ => ⟨S32x6, .i32⟩
  | .hbm, ⟨40, _⟩ => ⟨S_, .i32⟩
  | .hbm, ⟨41, _⟩ => ⟨S32x6, .i32⟩
  | .hbm, ⟨42, _⟩ => ⟨S32x6, .i32⟩
  | .hbm, ⟨43, _⟩ => ⟨S32x6x1, .i32⟩
  | .hbm, ⟨44, _⟩ => ⟨S32x6x1, .i32⟩
  | .hbm, ⟨45, _⟩ => ⟨S32x6x2, .i32⟩
  | .hbm, ⟨46, _⟩ => ⟨S32x6, .f32⟩
  | .hbm, ⟨47, _⟩ => ⟨S1x32x6x1, .f32⟩
  | .hbm, ⟨48, _⟩ => ⟨S3x32x6x128, .f32⟩
  | .hbm, ⟨49, _⟩ => ⟨S3x32x6x128, .f32⟩
  | .hbm, ⟨50, _⟩ => ⟨S2x2, .i32⟩
  | .hbm, ⟨51, _⟩ => ⟨S2x2, .i32⟩
  | .hbm, ⟨52, _⟩ => ⟨S_, .i32⟩
  | .hbm, ⟨53, _⟩ => ⟨S2x2, .i32⟩
  | .hbm, ⟨54, _⟩ => ⟨S2x2, .i32⟩
  | .hbm, ⟨55, _⟩ => ⟨S2x2, .i1⟩
  | .hbm, ⟨56, _⟩ => ⟨S2x2, .f32⟩
  | .hbm, ⟨57, _⟩ => ⟨S3x64x64, .f32⟩
  | .hbm, ⟨58, _⟩ => ⟨S3x1x64x1x64, .f32⟩
  | .hbm, ⟨59, _⟩ => ⟨S1x2x1x2x1, .f32⟩
  | .hbm, ⟨60, _⟩ => ⟨S3x2x64x2x64, .f32⟩
  | .hbm, ⟨61, _⟩ => ⟨S3x2x64x2x64, .f32⟩
  | .hbm, ⟨62, _⟩ => ⟨S3x2x64x2x64, .f32⟩
  | .hbm, ⟨63, _⟩ => ⟨S3x128x128, .f32⟩
  | .hbm, ⟨64, _⟩ => ⟨S3x128x128, .bf16⟩
  | .hbm, ⟨65, _⟩ => ⟨S1x64, .f32⟩
  | .hbm, ⟨66, _⟩ => ⟨S2x64, .f32⟩
  | .hbm, ⟨67, _⟩ => ⟨S128, .f32⟩
  | .hbm, ⟨68, _⟩ => ⟨S128x1, .f32⟩
  | .hbm, ⟨69, _⟩ => ⟨S128x32x64, .f32⟩
  | .hbm, ⟨70, _⟩ => ⟨S2x64x32x64, .f32⟩
  | .local _ .vmem, ⟨0, _⟩ => ⟨S3x32x6x128, .f32⟩
  | .local _ .vmem, ⟨1, _⟩ => ⟨S3x128x128, .bf16⟩
  | .local _ .vmem, ⟨2, _⟩ => ⟨S128x1, .f32⟩
  | .local _ .vmem, ⟨3, _⟩ => ⟨S128x8192, .bf16⟩
  | .local _ .vmem, ⟨4, _⟩ => ⟨S128x32x64, .f32⟩
  | _, _ => ⟨S2x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_c_0 : Ref sig .tc := ⟨.hbm, 33, rfl⟩
abbrev main_v5 : Ref sig .tc := ⟨.hbm, 34, rfl⟩
abbrev main_v6 : Ref sig .tc := ⟨.hbm, 35, rfl⟩
abbrev main_c_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_c_2 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S3x32x6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2x64x64x128 : Shape := ⟨4, ![2, 64, 64, 128]⟩
abbrev S3x32x8192 : Shape := ⟨3, ![3, 32, 8192]⟩
abbrev S64x1 : Shape := ⟨2, ![64, 1]⟩
abbrev S64x64x3 : Shape := ⟨3, ![64, 64, 3]⟩
abbrev S64 : Shape := ⟨1, ![64]⟩
abbrev S1x1x64x1 : Shape := ⟨4, ![1, 1, 64, 1]⟩
abbrev S128x64x128 : Shape := ⟨3, ![128, 64, 128]⟩
abbrev S128 : Shape := ⟨1, ![128]⟩
abbrev S128x1 : Shape := ⟨2, ![128, 1]⟩
abbrev S1x64 : Shape := ⟨2, ![1, 64]⟩
abbrev S_ : Shape := ⟨0, ![]⟩
abbrev S128x64 : Shape := ⟨2, ![128, 64]⟩
abbrev S128x64x1 : Shape := ⟨3, ![128, 64, 1]⟩
abbrev S128x64x128x64 : Shape := ⟨4, ![128, 64, 128, 64]⟩
abbrev S128x8192x64 : Shape := ⟨3, ![128, 8192, 64]⟩
abbrev S128x64x3x32 : Shape := ⟨4, ![128, 64, 3, 32]⟩
abbrev S128x3x32x64 : Shape := ⟨4, ![128, 3, 32, 64]⟩
abbrev S2x64x3x32x64 : Shape := ⟨5, ![2, 64, 3, 32, 64]⟩
abbrev S64x2x32x64 : Shape := ⟨4, ![64, 2, 32, 64]⟩
abbrev S2x64x32x64 : Shape := ⟨4, ![2, 64, 32, 64]⟩
abbrev S1x64x1x1 : Shape := ⟨4, ![1, 64, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S2x64x64x128, .f32⟩
  | .hbm, ⟨1, _⟩ => ⟨S3x32x8192, .f32⟩
  | .hbm, ⟨2, _⟩ => ⟨S64x1, .f32⟩
  | .hbm, ⟨3, _⟩ => ⟨S64x64x3, .f32⟩
  | .hbm, ⟨4, _⟩ => ⟨S64, .f32⟩
  | .hbm, ⟨5, _⟩ => ⟨S1x1x64x1, .f32⟩
  | .hbm, ⟨6, _⟩ => ⟨S2x64x64x128, .f32⟩
  | .hbm, ⟨7, _⟩ => ⟨S2x64x64x128, .f32⟩
  | .hbm, ⟨8, _⟩ => ⟨S128x64x128, .f32⟩
  | .hbm, ⟨9, _⟩ => ⟨S128, .i32⟩
  | .hbm, ⟨10, _⟩ => ⟨S128x1, .i32⟩
  | .hbm, ⟨11, _⟩ => ⟨S64, .i32⟩
  | .hbm, ⟨12, _⟩ => ⟨S1x64, .i32⟩
  | .hbm, ⟨13, _⟩ => ⟨S_, .i32⟩
  | .hbm, ⟨14, _⟩ => ⟨S1x64, .i32⟩
  | .hbm, ⟨15, _⟩ => ⟨S1x64, .i32⟩
  | .hbm, ⟨16, _⟩ => ⟨S128x64, .i32⟩
  | .hbm, ⟨17, _⟩ => ⟨S128x64, .i32⟩
  | .hbm, ⟨18, _⟩ => ⟨S128x64, .i32⟩
  | .hbm, ⟨19, _⟩ => ⟨S_, .i32⟩
  | .hbm, ⟨20, _⟩ => ⟨S128x64, .i32⟩
  | .hbm, ⟨21, _⟩ => ⟨S128x64, .i32⟩
  | .hbm, ⟨22, _⟩ => ⟨S_, .i32⟩
  | .hbm, ⟨23, _⟩ => ⟨S128x64, .i32⟩
  | .hbm, ⟨24, _⟩ => ⟨S128x64, .i1⟩
  | .hbm, ⟨25, _⟩ => ⟨S_, .i32⟩
  | .hbm, ⟨26, _⟩ => ⟨S128x64, .i32⟩
  | .hbm, ⟨27, _⟩ => ⟨S128x64, .i32⟩
  | .hbm, ⟨28, _⟩ => ⟨S128x64, .i32⟩
  | .hbm, ⟨29, _⟩ => ⟨S128x64x1, .i32⟩
  | .hbm, ⟨30, _⟩ => ⟨S128x64x128x64, .f32⟩
  | .hbm, ⟨31, _⟩ => ⟨S128x8192x64, .f32⟩
  | .hbm, ⟨32, _⟩ => ⟨S128x64x3x32, .f32⟩
  | .hbm, ⟨33, _⟩ => ⟨S128x3x32x64, .f32⟩
  | .hbm, ⟨34, _⟩ => ⟨S2x64x3x32x64, .f32⟩
  | .hbm, ⟨35, _⟩ => ⟨S64x2x32x64, .f32⟩
  | .hbm, ⟨36, _⟩ => ⟨S2x64x32x64, .f32⟩
  | .hbm, ⟨37, _⟩ => ⟨S1x64x1x1, .f32⟩
  | .hbm, ⟨38, _⟩ => ⟨S2x64x32x64, .f32⟩
  | .hbm, ⟨39, _⟩ => ⟨S2x64x32x64, .f32⟩
  | _, _ => ⟨S2x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.Tile.lean ====
module

public import proofs.«01_k».proof.Proof.Gen.KernelIdeal.Skeleton
public import Idealize.ShloMosaic.Lib.Pointwise

@[expose] public section

set_option maxRecDepth 16384

noncomputable section

namespace Cert.KernelIdeal.Tile

open Idealize.ShloMosaic Idealize.ShloMosaic.TcCoe Idealize.SL.Sem
open Cert.KernelIdeal Cert.KernelIdeal.Gen

/-- The lane of a row that output longitude `p` meets at lane `l`: `l` minus `2 p`, modulo 128. -/
def lane (p : Fin 64) (l : Fin 128) : Fin 128 :=
  ⟨(l.val + 128 - 2 * p.val % 128) % 128, Nat.mod_lt _ (by decide)⟩

/-- One loaded row of 128 lanes, repeated for the 64 output longitudes and turned by two lanes more for each. -/
def turned (v : FVec Ideal S1x1x1x128 .f32) : FVec Ideal S64x128 .f32 :=
  dynamicRotate 1 0#32 (some (2, 0))
    (broadcastTo S64x128
      (shapeCast S1x128 (shapeCast S1x128 (shapeCast S128 v shapeCasts_S1x1x1x128_S128) shapeCasts_S128_S1x128)
        shapeCasts_S1x128_S1x128) broadcasts_S1x128_S64x128) rotates_S64x128_d1s2a0

/-- A block turned by two lanes more on each row, at row `p` and lane `l`. -/
theorem rotate_apply (x : FVec Ideal S64x128 .f32) (p : Fin 64) (l : Fin 128) :
    dynamicRotate 1 0#32 (some (2, 0)) x rotates_S64x128_d1s2a0 (ix2 p l) = x (ix2 p (lane p l)) := by
  unfold dynamicRotate
  refine congrArg x (funext fun b => ?_)
  fin_cases b
  · rfl
  · refine Fin.ext ?_
    show ((l.val + 128 - (0 + 2 * p.val) % 128) % 128 : ℕ) = _
    rw [Nat.zero_add]
    rfl

/-- The turned row at longitude `p` and lane `l` is the row at lane `l - 2 p` modulo 128. -/
theorem turned_apply (v : FVec Ideal S1x1x1x128 .f32) (p : Fin 64) (l : Fin 128) :
    turned v (ix2 p l) = v (ix4 0 0 0 (lane p l)) := by
  unfold turned
  rw [rotate_apply]
  generalize lane p l = i
  pointwise []

/-- Six rows turned and laid side by side. -/
def six (v : Fin 6 → FVec Ideal S1x1x1x128 .f32) : FVec Ideal S64x768 .f32 :=
  concatenate S64x768 1 [⟨S64x128, turned (v 0)⟩, ⟨S64x128, turned (v 1)⟩, ⟨S64x128, turned (v 2)⟩,
    ⟨S64x128, turned (v 3)⟩, ⟨S64x128, turned (v 4)⟩, ⟨S64x128, turned (v 5)⟩]
    concatenates_S64x128_S64x128_S64x128_S64x128_S64x128_S64x128_S64x768_d1

/-- The windows of the three kernels stacked, against the same window of the signal. -/
def windowed (v : Fin 3 → Fin 6 → FVec Ideal S1x1x1x128 .f32) (xw : FVec Ideal S128x768 .bf16) : FVec Ideal S192x128 .bf16 :=
  truncf .bf16 (matmul dot_S192x768_S128x768_S192x128_1_1_0_0_n_n none
    (truncf .bf16 (concatenate S192x768 0 [⟨S64x768, six (v 0)⟩, ⟨S64x768, six (v 1)⟩, ⟨S64x768, six (v 2)⟩]
      concatenates_S64x768_S64x768_S64x768_S192x768_d0) bitsLt_bf16_f32)
    (shapeCast S128x768 xw shapeCasts_S128x768_S128x768) (constant S192x128 .f32 0x00000000#32)) bitsLt_bf16_f32

/-- One channel mix: the weights of one kernel against its 64 rows of the windowed products. -/
def mix (w : FVec Ideal S1x128x128 .bf16) (y : FVec Ideal S64x128 .bf16) : FVec Ideal S128x64 .f32 :=
  matmul dot_S128x128_S64x128_S128x64_1_1_0_0_n_n none (shapeCast S128x128 w shapeCasts_S1x128x128_S128x128) y
    (constant S128x64 .f32 0x00000000#32)

/-- What the body stores for one output latitude, from the rows, the window of the signal, the weights and the bias. -/
def pay (v : Fin 3 → Fin 6 → FVec Ideal S1x1x1x128 .f32) (xw : FVec Ideal S128x768 .bf16)
    (w : Fin 3 → FVec Ideal S1x128x128 .bf16) (b : FVec Ideal S128x1 .f32) : FVec Ideal S128x1x64 .f32 :=
  shapeCast S128x1x64
    (addf (addf (addf
      (mix (w 0) (extractStridedSlice S64x128 ![0, 0] (windowed v xw) slices_S192x128_o0_0_S64x128))
      (mix (w 1) (extractStridedSlice S64x128 ![64, 0] (windowed v xw) slices_S192x128_o64_0_S64x128)))
      (mix (w 2) (extractStridedSlice S64x128 ![128, 0] (windowed v xw) slices_S192x128_o128_0_S64x128)))
      (broadcastTo S128x64 (shapeCast S128x1 b shapeCasts_S128x1_S128x1) broadcasts_S128x1_S128x64))
    shapeCasts_S128x64_S128x1x64

/-- The product of one kernel's turned window with a signal row: a sum over six latitudes and 128 lanes. -/
def windowSum (v : Fin 6 → FVec Ideal S1x1x1x128 .f32) (xw : FVec Ideal S128x768 .bf16) (p : Fin 64) (c : Fin 128) : EReal :=
  ∑ q : Fin 768, v ⟨q.val / 128, by omega⟩ (ix4 0 0 0 (lane p ⟨q.val % 128, by omega⟩)) * xw (ix2 c q)

/-- The six rows side by side, read at longitude `p` and column `q`: row `q / 128` at the turned lane. -/
theorem six_apply (v : Fin 6 → FVec Ideal S1x1x1x128 .f32) (p : Fin 64) (q : Fin 768) :
    six v (ix2 p q) = v ⟨q.val / 128, by omega⟩ (ix4 0 0 0 (lane p ⟨q.val % 128, by omega⟩)) := by
  rw [← turned_apply (v ⟨q.val / 128, by omega⟩)]
  pointwise [six]
  split_ifs
  all_goals
    refine congr (congrArg turned (congrArg v (Fin.ext ?_))) (congrArg (ix2 p) (Fin.ext ?_)) <;> simp <;> omega

/-- The stored tile at channel row `o` and longitude `p`. -/
theorem pay_apply (v : Fin 3 → Fin 6 → FVec Ideal S1x1x1x128 .f32) (xw : FVec Ideal S128x768 .bf16)
    (w : Fin 3 → FVec Ideal S1x128x128 .bf16) (b : FVec Ideal S128x1 .f32) (o : Fin 128) (p : Fin 64) :
    pay v xw w b (ix3 o 0 p) = (∑ k : Fin 3, ∑ c : Fin 128, w k (ix3 0 o c) * windowSum (v k) xw p c) + b (ix2 o 0) := by
  pointwise [pay, mix, windowed]
  have e : ∀ h, (⟨128 + p.val - 64 - 64, h⟩ : Fin 64) = p := fun h => Fin.ext (by simp; omega)
  simp only [show ¬ 128 + p.val < 64 by omega, show ¬ 128 + p.val - 64 < 64 by omega, dif_neg, not_false_eq_true, e,
    six_apply, Fin.sum_univ_three, windowSum]

end Cert.KernelIdeal.Tile
-- ==== Proof.Block.lean ====
module

public import proofs.«01_k».proof.Proof.Tile
public import proofs.«01_k».proof.Proof.Gen.KernelIdeal.Frame
public import Idealize.ShloMosaic.Lib.Pipeline.ValueKit

@[expose] public section

set_option maxRecDepth 16384

noncomputable section

namespace Cert.KernelIdeal.Tile

open Idealize.ShloMosaic Idealize.ShloMosaic.TcCoe Idealize.SL.Sem
open Cert.KernelIdeal Cert.KernelIdeal.Gen

/-- The first input latitude that output latitude `t` reads. -/
def start (t : Fin 32) : ℕ := min (2 * t.val - 2) 58

/-- The rectangle of one row of the weighted filter: kernel `k`, output latitude `t`, window row `r`. -/
def rowRect (k : Fin 3) (t : Fin 32) (r : Fin 6) : Rect S3x32x6x128 :=
  Rect.unit (s := S3x32x6x128) ![k.val, t.val, r.val, 0] S1x1x1x128.size (by
    intro a; fin_cases a <;> simp <;> omega)

/-- The rectangle of the six latitudes of the signal that output latitude `t` reads. -/
def signalRect (t : Fin 32) : Rect S128x8192 :=
  Rect.unit (s := S128x8192) ![0, 128 * start t] S128x768.size (by
    intro a; fin_cases a <;> simp [start] <;> omega)

/-- The rectangle of the mixing weights of kernel `k`. -/
def weightRect (k : Fin 3) : Rect S3x128x128 :=
  Rect.unit (s := S3x128x128) ![k.val, 0, 0] S1x128x128.size (by
    intro a; fin_cases a <;> simp <;> omega)

/-- The rectangle of the result that output latitude `t` writes. -/
def outRect (t : Fin 32) : Rect S128x32x64 :=
  Rect.unit (s := S128x32x64) ![0, t.val, 0] S128x1x64.size (by
    intro a; fin_cases a <;> simp <;> omega)

/-- The tile that output latitude `t` stores. -/
def tile (x0 : Vec Ideal S3x32x6x128 .f32) (x1 : Vec Ideal S3x128x128 .bf16) (x2 : Vec Ideal S128x1 .f32)
    (x3 : Vec Ideal S128x8192 .bf16) (t : Fin 32) : FVec Ideal S128x1x64 .f32 :=
  pay (fun k r => View.ld x0 (rowRect k t r)) (View.ld x3 (signalRect t)) (fun k => View.ld x1 (weightRect k))
    (View.ld x2 r0_22)

/-- The result block at channel row `o`, latitude `t`, longitude `p`. -/
def G (x0 : FVec Ideal S3x32x6x128 .f32) (x1 : FVec Ideal S3x128x128 .bf16) (x2 : FVec Ideal S128x1 .f32)
    (x3 : FVec Ideal S128x8192 .bf16) (o : Fin 128) (t : Fin 32) (p : Fin 64) : EReal :=
  (∑ k : Fin 3, ∑ c : Fin 128, x1 (ix3 k o c) * ∑ q : Fin 768,
    x0 (ix4 k t ⟨q.val / 128, by omega⟩ (lane p ⟨q.val % 128, by omega⟩)) *
      x3 (ix2 c ⟨128 * start t + q.val, by simp [start]; omega⟩)) + x2 (ix2 o 0)

/-- What the body leaves in the result block is one tile for each output latitude, the last stored first. -/
theorem out_list (x0 : Vec Ideal S3x32x6x128 .f32) (x1 : Vec Ideal S3x128x128 .bf16) (x2 : Vec Ideal S128x1 .f32)
    (x3 : Vec Ideal S128x8192 .bf16) :
    out0_4 x0 x1 x2 x3 = View.canon ((List.finRange 32).reverse.map fun t =>
      (⟨outRect t, tile x0 x1 x2 x3 t⟩ : View.Piece (Elt Ideal) S128x32x64 .f32)) := rfl

/-- The tile of output latitude `t` holds the result block's values there. -/
theorem tile_apply (x0 : Vec Ideal S3x32x6x128 .f32) (x1 : Vec Ideal S3x128x128 .bf16) (x2 : Vec Ideal S128x1 .f32)
    (x3 : Vec Ideal S128x8192 .bf16) (t : Fin 32) (o : Fin 128) (p : Fin 64) :
    tile x0 x1 x2 x3 t (ix3 o 0 p) = G x0 x1 x2 x3 o t p := by
  refine (pay_apply _ _ _ _ o p).trans ?_
  refine congrArg₂ (· + ·) (Finset.sum_congr rfl fun k _ => Finset.sum_congr rfl fun c _ => congrArg₂ (· * ·) ?_
    (Finset.sum_congr rfl fun q _ => congrArg₂ (· * ·) ?_ ?_)) ?_
  · exact congrArg x1 (funext fun a => Fin.ext (by fin_cases a <;> simp [weightRect, ix3]))
  · exact congrArg x0 (funext fun a => Fin.ext (by fin_cases a <;> simp [rowRect, ix4]))
  · exact congrArg x3 (funext fun a => Fin.ext (by fin_cases a <;> simp [signalRect, ix2]))
  · exact congrArg x2 (funext fun a => Fin.ext (by fin_cases a <;> simp [r0_22, ix2]))

/-- What the body leaves in the result block, element by element. -/
theorem out_apply (x0 : Vec Ideal S3x32x6x128 .f32) (x1 : Vec Ideal S3x128x128 .bf16) (x2 : Vec Ideal S128x1 .f32)
    (x3 : Vec Ideal S128x8192 .bf16) (o : Fin 128) (t : Fin 32) (p : Fin 64) :
    out0_4 x0 x1 x2 x3 (ix3 o t p) = G x0 x1 x2 x3 o t p := by
  rw [out_list]
  refine View.canon_apply_of_pieces (Val := Elt Ideal) (e := .f32)
    (fun y : S128x32x64.Idx => (G x0 x1 x2 x3 (y 0) (y 1) (y 2) : EReal)) _ ?_ (ix3 o t p) ?_
  · intro q hq x
    obtain ⟨t', -, rfl⟩ := List.mem_map.1 hq
    obtain ⟨a, b, c, rfl⟩ : ∃ (a : Fin 128) (b : Fin 1) (c : Fin 64), x = ix3 a b c := ⟨_, _, _, eq_ix3 x⟩
    obtain rfl : b = 0 := Subsingleton.elim _ _
    refine (tile_apply x0 x1 x2 x3 t' a c).trans ?_
    have e : (outRect t').emb (ix3 a 0 c) = (ix3 a t' c : S128x32x64.Idx) :=
      funext fun i => Fin.ext (by
        fin_cases i
        · show 0 + 1 * a.val = a.val; omega
        · show t'.val + 1 * 0 = t'.val; omega
        · show 0 + 1 * c.val = c.val; omega)
    show _ = (fun y : S128x32x64.Idx => (G x0 x1 x2 x3 (y 0) (y 1) (y 2) : EReal)) ((outRect t').emb (ix3 a 0 c))
    rw [e]
    rfl
  · refine ⟨_, List.mem_map.2 ⟨t, by simp, rfl⟩, ?_⟩
    show ix3 o t p ∈ (outRect t).set
    unfold outRect
    rw [Rect.mem_set_unit]
    intro a
    fin_cases a <;> simp [ix3]

end Cert.KernelIdeal.Tile

end
-- ==== Proof.Host.lean ====
module

public import proofs.«01_k».proof.Proof.Block
public import Idealize.ShloMosaic.Lib.Claim

@[expose] public section

set_option maxRecDepth 16384

noncomputable section

namespace Cert.KernelIdeal.Prefix

open Idealize.ShloMosaic Idealize.ShloMosaic.TcCoe Idealize.SL.Sem
open Cert.KernelIdeal Cert.KernelIdeal.Gen Cert.KernelIdeal.Tile

/-- The table of input latitudes: six for each output latitude. -/
def table : IVec S32x6 32 := fun i => lit0 (S32x6.rowMajor i)

/-- The table with negative entries wrapped, one row index for each window row. -/
def rows : IVec S32x6x1 32 :=
  shapeCast S32x6x1
    (select (cmpi .slt (broadcastInDim S1x32x6x1 ![1, 2] bcast_S32x6_S1x32x6x1_1_2 table)
        (broadcastInDim S1x32x6x1 ![] bcast_S_S1x32x6x1 (constantI S_ 32 0#32)))
      (addi (broadcastInDim S1x32x6x1 ![1, 2] bcast_S32x6_S1x32x6x1_1_2 table)
        (broadcastInDim S1x32x6x1 ![] bcast_S_S1x32x6x1 (constantI S_ 32 64#32)))
      (broadcastInDim S1x32x6x1 ![1, 2] bcast_S32x6_S1x32x6x1_1_2 table)) shapeCasts_S1x32x6x1_S32x6x1

/-- Whether a row index lies among the 64 latitudes. -/
def inside : IVec S32x6 1 :=
  Host.reduce IntOp.andi
    (andi (cmpi .sge rows (broadcastInDim S32x6x1 ![] bcast_S_S32x6x1 (constantI S_ 32 0#32)))
      (cmpi .sle rows (broadcastInDim S32x6x1 ![0, 1, 2] bcast_S1x1x1_S32x6x1_0_1_2
        (broadcastInDim S1x1x1 ![2] bcast_S1_S1x1x1_2 (constantI S1 32 63#32)))))
    (constantI S_ 1 1#1) reducesTo_S32x6x1_S32x6_d2 h_S_

/-- The pairs (row, 0) at which the quadrature weights are read. -/
def pairs : IVec S32x6x2 32 :=
  concatenate S32x6x2 2
    [⟨S32x6x1, broadcastInDim S32x6x1 ![0, 1] bcast_S32x6_S32x6x1_0_1
      (select (cmpi .slt table (broadcastInDim S32x6 ![] bcast_S_S32x6 (constantI S_ 32 0#32)))
        (addi table (broadcastInDim S32x6 ![] bcast_S_S32x6 (constantI S_ 32 64#32))) table)⟩,
     ⟨S32x6x1, broadcastInDim S32x6x1 ![0, 1] bcast_S32x6_S32x6x1_0_1
      (broadcastInDim S32x6 ![] bcast_S_S32x6 (constantI S_ 32 0#32))⟩] concatenates_S32x6x1_S32x6x1_S32x6x2_d2

/-- The rows of the filter taken for each output latitude. -/
def taken (psi : FVec Ideal S3x32x8192 .f32) : FVec Ideal S3x32x6x128 .f32 :=
  select (broadcastInDim S3x32x6x128 ![1, 2] bcast_S32x6_S3x32x6x128_1_2 inside)
    (Host.gather gather_S3x32x64x128_S32x6x1_S3x32x6x128_03_2_1_0_2_2_311128
      (shapeCast S3x32x64x128 psi shapeCasts_S3x32x8192_S3x32x64x128) rows)
    (broadcastInDim S3x32x6x128 ![] bcast_S_S3x32x6x128 (constant S_ .f32 0x7FC00000#32))

/-- The rows taken, each weighted by the quadrature weight of its latitude. -/
def weighted (psi : FVec Ideal S3x32x8192 .f32) (quad : FVec Ideal S64x1 .f32) : FVec Ideal S3x32x6x128 .f32 :=
  mulf (taken psi) (broadcastInDim S3x32x6x128 ![0, 1, 2, 3] bcast_S1x32x6x1_S3x32x6x128_0_1_2_3
    (broadcastInDim S1x32x6x1 ![1, 2] bcast_S32x6_S1x32x6x1_1_2
      (Host.gather gather_S64x1_S32x6x2_S32x6_n_01_n_n_01_2_11 quad pairs)))

/-- The row indices are `start t + r`. -/
theorem rows_apply (t : Fin 32) (r : Fin 6) : rows (ix3 t r 0) = BitVec.ofNat 32 (start t + r.val) := by
  revert t r; decide +kernel

/-- Every row index lies among the 64 latitudes. -/
theorem inside_apply (t : Fin 32) (r : Fin 6) : inside (ix2 t r) = 1#1 := by
  revert t r; decide +kernel

/-- The pairs are `(start t + r, 0)`. -/
theorem pairs_apply (t : Fin 32) (r : Fin 6) :
    pairs (ix3 t r 0) = BitVec.ofNat 32 (start t + r.val) ∧ pairs (ix3 t r 1) = 0#32 := by
  revert t r; decide +kernel

/-- A row number as a 32-bit word, read signed. -/
theorem row_toNat (t : Fin 32) (r : Fin 6) : (BitVec.ofNat 32 (start t + r.val)).toInt.toNat = start t + r.val := by
  revert t r; decide +kernel

/-- The input latitude of window row `r` of output latitude `t`. -/
def lat (t : Fin 32) (r : Fin 6) : Fin 64 := ⟨start t + r.val, by simp [start]; omega⟩

/-- The gathered filter row. -/
theorem gather_rows (x : FVec Ideal S3x32x64x128 .f32) (k : Fin 3) (t : Fin 32) (r : Fin 6) (l : Fin 128) :
    Host.gather gather_S3x32x64x128_S32x6x1_S3x32x6x128_03_2_1_0_2_2_311128 x rows (ix4 k t r l) = x (ix4 k t (lat t r) l) := by
  unfold Host.gather
  refine congrArg x (funext fun a => Fin.ext ?_)
  fin_cases a
  · show 0 + 0 + k.val = k.val; omega
  · show 0 + t.val + 0 = t.val; omega
  · show min (rows _).toInt.toNat 63 + 0 + 0 = start t + r.val
    have e : ∀ i : S32x6x1.Idx, i = ix3 t r 0 → min (rows i).toInt.toNat 63 + 0 + 0 = start t + r.val := by
      rintro _ rfl
      rw [rows_apply, row_toNat]
      simp [start]; omega
    refine e _ (funext fun b => Fin.ext ?_)
    fin_cases b <;> rfl
  · show 0 + 0 + l.val = l.val; omega

/-- The gathered quadrature weight. -/
theorem gather_quad (x : FVec Ideal S64x1 .f32) (t : Fin 32) (r : Fin 6) :
    Host.gather gather_S64x1_S32x6x2_S32x6_n_01_n_n_01_2_11 x pairs (ix2 t r) = x (ix2 (lat t r) 0) := by
  unfold Host.gather
  refine congrArg x (funext fun a => Fin.ext ?_)
  fin_cases a
  · show min (pairs _).toInt.toNat 63 + 0 + 0 = start t + r.val
    have e : ∀ i : S32x6x2.Idx, i = ix3 t r 0 → min (pairs i).toInt.toNat 63 + 0 + 0 = start t + r.val := by
      rintro _ rfl
      rw [(pairs_apply t r).1, row_toNat]
      simp [start]; omega
    refine e _ (funext fun b => Fin.ext ?_)
    fin_cases b <;> rfl
  · show min (pairs _).toInt.toNat 0 + 0 + 0 = 0
    simp

/-- The weighted filter row, read at an index. -/
theorem weighted_apply (psi : FVec Ideal S3x32x8192 .f32) (quad : FVec Ideal S64x1 .f32) (k : Fin 3) (t : Fin 32)
    (r : Fin 6) (l : Fin 128) :
    weighted psi quad (ix4 k t r l) =
      psi (ix3 k t ⟨(lat t r).val * 128 + l.val, by omega⟩) * quad (ix2 (lat t r) 0) := by
  pointwise [weighted, taken, inside_apply, gather_rows, gather_quad]

variable (m : (ℓ : Loc nD τ sig) → Buf (Elt Ideal) ℓ)

/-- The first operand of the region is the weighted filter rows. -/
theorem entry_filter (c : Dev nD) : V m c main_v18 =
    weighted (m ((c : Thread nD τ).loc main_arg1)) (m ((c : Thread nD τ).loc main_arg2)) := by
  simp only [V, V0, hostOps0, hostOps0_1, hostOps0_2, List.flatten_cons, List.flatten_nil, List.append_nil, List.cons_append, List.nil_append]
  entry_read
  simp only [StableHlo.TRef.ofBuf_toBuf]
  simp only [StableHlo.TRef.ofBuf, StableHlo.TRef.toBuf, cast_eq]
  unfold weighted taken inside rows pairs table
  set_option maxHeartbeats 1000000 in
  rfl

/-- The identity matrix over the two batches. -/
def eye : FVec Ideal S2x2 .f32 :=
  uitofp .f32 (cmpi .eq (addi (iotaInDim S2x2 32 0) (broadcastInDim S2x2 ![] bcast_S_S2x2 (constantI S_ 32 0#32)))
    (iotaInDim S2x2 32 1))

/-- The block-diagonal mixing weights. -/
def blockDiag (w : FVec Ideal S64x64x3 .f32) : FVec Ideal S3x128x128 .bf16 :=
  truncf .bf16 (shapeCast S3x128x128
    (mulf (broadcastInDim S3x2x64x2x64 ![0, 1, 2, 3, 4] bcast_S3x1x64x1x64_S3x2x64x2x64_0_1_2_3_4
        (broadcastInDim S3x1x64x1x64 ![0, 2, 4] bcast_S3x64x64_S3x1x64x1x64_0_2_4
          (transpose S3x64x64 [2, 0, 1] w transposes_S64x64x3_S3x64x64_2_0_1)))
      (broadcastInDim S3x2x64x2x64 ![0, 1, 2, 3, 4] bcast_S1x2x1x2x1_S3x2x64x2x64_0_1_2_3_4
        (broadcastInDim S1x2x1x2x1 ![1, 3] bcast_S2x2_S1x2x1x2x1_1_3 eye))) shapeCasts_S3x2x64x2x64_S3x128x128) bitsLt_bf16_f32

/-- The bias repeated for the two batches. -/
def tiledBias (b : FVec Ideal S64 .f32) : FVec Ideal S128x1 .f32 :=
  shapeCast S128x1 (shapeCast S128 (broadcastInDim S2x64 ![0, 1] bcast_S1x64_S2x64_0_1
    (shapeCast S1x64 b shapeCasts_S64_S1x64)) shapeCasts_S2x64_S128) shapeCasts_S128_S128x1

/-- The signal with batch and channel, and latitude and longitude, merged. -/
def flatSignal (x : FVec Ideal S2x64x64x128 .f32) : FVec Ideal S128x8192 .bf16 :=
  truncf .bf16 (shapeCast S128x8192 x shapeCasts_S2x64x64x128_S128x8192) bitsLt_bf16_f32

/-- The identity matrix is one on the diagonal and zero off it. -/
theorem eye_apply (a b : Fin 2) : eye (ix2 a b) = if a = b then 1 else 0 := by
  pointwise [eye]
  have one : (FloatOps.uitofp (F := Ideal) FTy.f32 1#1 : EReal) = 1 := by
    show (((1#1 : BitVec 1).toNat : ℝ) : EReal) = 1
    simp
  have zero : (FloatOps.uitofp (F := Ideal) FTy.f32 0#1 : EReal) = 0 := by
    show (((0#1 : BitVec 1).toNat : ℝ) : EReal) = 0
    simp
  fin_cases a <;> fin_cases b
  · exact one
  · exact zero
  · exact zero
  · exact one

/-- A block-diagonal weight is the mixing weight inside its batch's block and zero outside. -/
theorem blockDiag_apply (w : FVec Ideal S64x64x3 .f32) (k : Fin 3) (a : Fin 2) (f : Fin 64) (b : Fin 2) (c : Fin 64) :
    blockDiag w (ix3 k ⟨a.val * 64 + f.val, by omega⟩ ⟨b.val * 64 + c.val, by omega⟩) =
      w (ix3 f c k) * if a = b then 1 else 0 := by
  rw [← eye_apply]
  pointwise [blockDiag]

/-- The repeated bias. -/
theorem tiledBias_apply (v : FVec Ideal S64 .f32) (a : Fin 2) (f : Fin 64) :
    tiledBias v (ix2 ⟨a.val * 64 + f.val, by omega⟩ 0) = v (ix1 f) := by
  pointwise [tiledBias]

/-- The merged signal. -/
theorem flatSignal_apply (x : FVec Ideal S2x64x64x128 .f32) (b : Fin 2) (c h : Fin 64) (l : Fin 128) :
    flatSignal x (ix2 ⟨b.val * 64 + c.val, by omega⟩ ⟨h.val * 128 + l.val, by omega⟩) = x (ix4 b c h l) := by
  pointwise [flatSignal]

/-- The second operand of the region is the block-diagonal weights. -/
theorem entry_weights (c : Dev nD) : V m c main_v32 = blockDiag (m ((c : Thread nD τ).loc main_arg3)) := by
  simp only [V, V0, hostOps0, hostOps0_1, hostOps0_2, List.flatten_cons, List.flatten_nil, List.append_nil, List.cons_append, List.nil_append]
  entry_read
  rfl

/-- The third operand of the region is the repeated bias. -/
theorem entry_bias (c : Dev nD) : V m c main_v36 = tiledBias (m ((c : Thread nD τ).loc main_arg4)) := by
  simp only [V, V0, hostOps0, hostOps0_1, hostOps0_2, List.flatten_cons, List.flatten_nil, List.append_nil, List.cons_append, List.nil_append]
  entry_read
  rfl

/-- The fourth operand of the region is the merged signal. -/
theorem entry_signal (c : Dev nD) : V m c main_v1 = flatSignal (m ((c : Thread nD τ).loc main_arg0)) := by
  simp only [V, V0, hostOps0, hostOps0_1, hostOps0_2, List.flatten_cons, List.flatten_nil, List.append_nil, List.cons_append, List.nil_append]
  entry_read
  rfl

end Cert.KernelIdeal.Prefix

end
-- ==== Proof.Equation.lean ====
module

public import proofs.«01_k».proof.Proof.Host
public import Mathlib.Algebra.BigOperators.Ring.Finset

@[expose] public section

set_option maxRecDepth 16384

noncomputable section

namespace Cert.KernelIdeal.Equation

open Idealize.ShloMosaic Idealize.ShloMosaic.TcCoe Idealize.SL.Sem
open Cert.KernelIdeal Cert.KernelIdeal.Gen Cert.KernelIdeal.Tile Cert.KernelIdeal.Prefix

/-- The longitude that output longitude `p` meets at filter longitude `l`. -/
def ahead (p : Fin 64) (l : Fin 128) : Fin 128 := ⟨(l.val + 2 * p.val) % 128, Nat.mod_lt _ (by decide)⟩

/-- Turning forth and back is a bijection of the longitudes. -/
def spin (p : Fin 64) : Fin 128 ≃ Fin 128 where
  toFun := lane p
  invFun := ahead p
  left_inv l := Fin.ext (by simp only [lane, ahead]; omega)
  right_inv l := Fin.ext (by simp only [lane, ahead]; omega)

/-- A sum over the longitudes may be taken in turned order. -/
theorem sum_spin (p : Fin 64) (g : Fin 128 → Fin 128 → EReal) : (∑ l, g (lane p l) l) = ∑ l, g l (ahead p l) := by
  rw [← Equiv.sum_comp (spin p) (fun l => g l (ahead p l))]
  refine Finset.sum_congr rfl fun l _ => ?_
  have e : ahead p (spin p l) = l := (spin p).left_inv l
  rw [e]; rfl

/-- The first of the six latitudes is at most 58. -/
theorem start_le (t : Fin 32) : start t ≤ 58 := Nat.min_le_right _ _

/-- A sum over the 64 latitudes whose terms vanish outside six consecutive ones is the sum over the six. -/
theorem sum_lat (t : Fin 32) (g : Fin 64 → EReal)
    (out : ∀ h : Fin 64, (h.val < start t ∨ start t + 6 ≤ h.val) → g h = 0) : (∑ h, g h) = ∑ r : Fin 6, g (lat t r) := by
  have inj : Function.Injective (lat t) := fun a b e => Fin.ext (by have := congrArg Fin.val e; simp only [lat] at this; omega)
  refine Eq.trans ?_ (Finset.sum_map Finset.univ ⟨lat t, inj⟩ g)
  refine (Finset.sum_subset (Finset.subset_univ _) fun h _ no => out h ?_).symm
  by_contra c
  refine no (Finset.mem_map.2 ⟨⟨h.val - start t, by omega⟩, Finset.mem_univ _, Fin.ext ?_⟩)
  show start t + (h.val - start t) = h.val
  omega

section

variable (x : FVec Ideal S2x64x64x128 .f32) (psi : FVec Ideal S3x32x8192 .f32) (quad : FVec Ideal S64x1 .f32)
  (weight : FVec Ideal S64x64x3 .f32) (bias : FVec Ideal S64 .f32)

/-- What the reference sums at filter `k`, batch `b`, channel `c`: over every input latitude and longitude. -/
def full (k : Fin 3) (b : Fin 2) (c : Fin 64) (t : Fin 32) (p : Fin 64) : EReal :=
  ∑ n : Fin 8192, (quad (ix2 ⟨n.val / 128, by omega⟩ 0) * x (ix4 b c ⟨n.val / 128, by omega⟩ (ahead p ⟨n.val % 128, by omega⟩)))
    * psi (ix3 k t n)

/-- What the reference computes at batch `b`, filter `f`, output latitude `t`, output longitude `p`. -/
def total (b : Fin 2) (f : Fin 64) (t : Fin 32) (p : Fin 64) : EReal :=
  (∑ c : Fin 64, ∑ k : Fin 3, weight (ix3 f c k) * full x psi quad k b c t p) + bias (ix1 f)

/-- What the kernel sums for row `b * 64 + c` of the signal: over the six input latitudes read. -/
theorem window (local_psi : ∀ (k : Fin 3) (t : Fin 32) (h : Fin 64) (l : Fin 128),
      (h.val < start t ∨ start t + 6 ≤ h.val) → psi (ix3 k t ⟨h.val * 128 + l.val, by omega⟩) = 0)
    (k : Fin 3) (b : Fin 2) (c : Fin 64) (t : Fin 32) (p : Fin 64) :
    (∑ q : Fin 768, weighted psi quad (ix4 k t ⟨q.val / 128, by omega⟩ (lane p ⟨q.val % 128, by omega⟩))
      * flatSignal x (ix2 ⟨b.val * 64 + c.val, by omega⟩ ⟨128 * start t + q.val, by have := start_le t; omega⟩)) =
    full x psi quad k b c t p := by
  have left : ∀ (r : Fin 6) (l : Fin 128),
      flatSignal x (ix2 ⟨b.val * 64 + c.val, by omega⟩ ⟨128 * start t + (r.val * 128 + l.val), by have := start_le t; omega⟩) =
        x (ix4 b c (lat t r) l) := fun r l => by
    refine Eq.trans ?_ (flatSignal_apply x b c (lat t r) l)
    refine congrArg (flatSignal x) (congrArg (ix2 _) (Fin.ext ?_))
    show 128 * start t + (r.val * 128 + l.val) = (start t + r.val) * 128 + l.val
    omega
  have div : ∀ {J : ℕ} (r : Fin J) (l : Fin 128), (r.val * 128 + l.val) / 128 = r.val := fun r l => by omega
  have mod : ∀ {J : ℕ} (r : Fin J) (l : Fin 128), (r.val * 128 + l.val) % 128 = l.val := fun r l => by omega
  rw [Fin.sum_univ_tiles 6 128 rfl, full, Fin.sum_univ_tiles 64 128 rfl]
  simp only [div, mod, Fin.eta, left, weighted_apply]
  rw [sum_lat t _ fun h out => Finset.sum_eq_zero fun l _ => by rw [local_psi k t h l out, mul_zero]]
  refine Finset.sum_congr rfl fun r _ => ?_
  refine (sum_spin p fun a l => psi (ix3 k t ⟨(lat t r).val * 128 + a.val, by omega⟩) * quad (ix2 (lat t r) 0)
    * x (ix4 b c (lat t r) l)).trans (Finset.sum_congr rfl fun l _ => ?_)
  rw [mul_assoc, mul_comm]

/-- The kernel's value at an index is the reference's, for a filter that is zero outside the six latitudes read. -/
theorem value (local_psi : ∀ (k : Fin 3) (t : Fin 32) (h : Fin 64) (l : Fin 128),
      (h.val < start t ∨ start t + 6 ≤ h.val) → psi (ix3 k t ⟨h.val * 128 + l.val, by omega⟩) = 0)
    (b : Fin 2) (f : Fin 64) (t : Fin 32) (p : Fin 64) :
    G (weighted psi quad) (blockDiag weight) (tiledBias bias) (flatSignal x) ⟨b.val * 64 + f.val, by omega⟩ t p =
      total x psi quad weight bias b f t p := by
  have off : ∀ (k : Fin 3) (a : Fin 2) (c : Fin 64), a ≠ b → ∀ y : EReal,
      blockDiag weight (ix3 k ⟨b.val * 64 + f.val, by omega⟩ ⟨a.val * 64 + c.val, by omega⟩) * y = 0 := fun k a c ne y => by
    rw [blockDiag_apply, if_neg (Ne.symm ne), mul_zero, zero_mul]
  unfold G total
  rw [tiledBias_apply, Finset.sum_comm (s := (Finset.univ : Finset (Fin 64)))]
  congr 1
  refine Finset.sum_congr rfl fun k _ => ?_
  rw [Fin.sum_univ_tiles 2 64 rfl, Finset.sum_eq_single b (fun a _ ne => Finset.sum_eq_zero fun c _ => off k a c ne _)
    fun no => absurd (Finset.mem_univ b) no]
  refine Finset.sum_congr rfl fun c _ => ?_
  rw [blockDiag_apply, if_pos rfl, mul_one, window x psi quad local_psi]

end

end Cert.KernelIdeal.Equation

end
-- ==== Proof.Final.lean ====
module

public import proofs.«01_k».proof.Proof.Equation

@[expose] public section

set_option maxRecDepth 16384

noncomputable section

namespace Cert.KernelIdeal.Final

open Idealize.ShloMosaic Idealize.ShloMosaic.TcCoe Idealize.SL.Sem
open Cert.KernelIdeal Cert.KernelIdeal.Gen Cert.KernelIdeal.Tile Cert.KernelIdeal.Prefix

variable (m : (ℓ : Loc nD τ sig) → Buf (Elt Ideal) ℓ)

/-- The first operand's only block is its whole array. -/
theorem block_filter (c : Dev nD) : iblk m c 0 t0_0 = V m c main_v18 := by
  funext i
  refine congrArg (V m c main_v18) (funext fun a => Fin.ext ?_)
  fin_cases a <;> simp <;> decide

/-- The second operand's only block is its whole array. -/
theorem block_weights (c : Dev nD) : iblk m c 1 t0_0 = V m c main_v32 := by
  funext i
  refine congrArg (V m c main_v32) (funext fun a => Fin.ext ?_)
  fin_cases a <;> simp <;> decide

/-- The third operand's only block is its whole array. -/
theorem block_bias (c : Dev nD) : iblk m c 2 t0_0 = V m c main_v36 := by
  funext i
  refine congrArg (V m c main_v36) (funext fun a => Fin.ext ?_)
  fin_cases a <;> simp <;> decide

/-- The fourth operand's only block is its whole array. -/
theorem block_signal (c : Dev nD) : iblk m c 3 t0_0 = V m c main_v1 := by
  funext i
  refine congrArg (V m c main_v1) (funext fun a => Fin.ext ?_)
  fin_cases a <;> simp <;> decide

/-- The output array after the region. -/
theorem array (c : Dev nD) : (dats m 0 c).arrAt 4 (cfgs 0).N =
    out0_4 (V m c main_v18) (V m c main_v32) (V m c main_v36) (V m c main_v1) := by
  refine (dats m 0 c).arrAt_eq_of_after_last 4 t0_0 (by decide +kernel) _ fun j => ?_
  rw [after0_4, cast_eq, block_filter, block_weights, block_bias, block_signal]
  refine congrArg (out0_4 _ _ _ _) (funext fun a => Fin.ext ?_)
  fin_cases a <;> rfl

/-- The reshaped result. -/
theorem tail (c : Dev nD) : Pipeline.afterTail₀ cfgs (dats m) 0 (V0 m) [hostOps1] c main_v38 =
    shapeCast S2x64x32x64 ((dats m 0 c).arrAt 4 (cfgs 0).N) shapeCasts_S128x32x64_S2x64x32x64 := by
  unfold Pipeline.afterTail₀
  simp only [hostOps1, List.flatten_cons, List.flatten_nil, List.append_nil]
  entry_read
  exact congrArg (fun A : FVec Ideal S128x32x64 .f32 => shapeCast S2x64x32x64 A shapeCasts_S128x32x64_S2x64x32x64)
    (Pipeline.withArrays_arr (cfgs 0).spec (by decide) c (V0 m c) (fun w => (dats m 0 c).arrAt w (cfgs 0).N) 4)

/-- Reshaping the output array splits its first axis into batch and filter. -/
theorem split_apply (y : FVec Ideal S128x32x64 .f32) (b : Fin 2) (f : Fin 64) (t : Fin 32) (p : Fin 64) :
    shapeCast S2x64x32x64 y shapeCasts_S128x32x64_S2x64x32x64 (ix4 b f t p) =
      y (ix3 ⟨b.val * 64 + f.val, by omega⟩ t p) := by
  pointwise

/-- The kernel's result at an index, for a filter that is zero outside the six latitudes read: the full sum over
    channels, filters, latitudes and longitudes, plus the bias. -/
theorem result_apply (c : Dev nD)
    (local_psi : ∀ (k : Fin 3) (t : Fin 32) (h : Fin 64) (l : Fin 128), (h.val < start t ∨ start t + 6 ≤ h.val) →
      m ((c : Thread nD τ).loc main_arg1) (ix3 k t ⟨h.val * 128 + l.val, by omega⟩) = (0 : EReal))
    (b : Fin 2) (f : Fin 64) (t : Fin 32) (p : Fin 64) :
    Pipeline.afterTail₀ cfgs (dats m) 0 (V0 m) [hostOps1] c main_v38 (ix4 b f t p) =
      Equation.total (m ((c : Thread nD τ).loc main_arg0)) (m ((c : Thread nD τ).loc main_arg1))
        (m ((c : Thread nD τ).loc main_arg2)) (m ((c : Thread nD τ).loc main_arg3))
        (m ((c : Thread nD τ).loc main_arg4)) b f t p := by
  rw [tail, array]
  refine (split_apply _ b f t p).trans ?_
  rw [entry_filter, entry_weights, entry_bias, entry_signal]
  refine (out_apply _ _ _ _ _ t p).trans ?_
  exact Equation.value _ _ _ _ _ local_psi b f t p

end Cert.KernelIdeal.Final

end
-- ==== Proof.Reference.lean ====
module

public import proofs.«01_k».proof.Proof.Gen.ReferenceIdeal.Run
public import Idealize.ShloMosaic.Lib.Pointwise

@[expose] public section

set_option maxRecDepth 16384

noncomputable section

namespace Cert.ReferenceIdeal.Reading

open Idealize.ShloMosaic Idealize.ShloMosaic.TcCoe Idealize.SL.Sem
open Cert.ReferenceIdeal Cert.ReferenceIdeal.Gen

/-- The remainder of `l + 2 p` by 128, as the program computes it. -/
def turn : IVec S128x64 32 :=
  Host.remsi (addi (broadcastInDim S128x64 ![0, 1] bcast_S128x1_S128x64_0_1
      (broadcastInDim S128x1 ![0] bcast_S128_S128x1_0 (iotaInDim S128 32 0)))
    (broadcastInDim S128x64 ![0, 1] bcast_S1x64_S128x64_0_1
      (muli (broadcastInDim S1x64 ![] bcast_S_S1x64 (constantI S_ 32 2#32))
        (broadcastInDim S1x64 ![1] bcast_S64_S1x64_1 (iotaInDim S64 32 0)))))
    (broadcastInDim S128x64 ![] bcast_S_S128x64 (constantI S_ 32 128#32))

/-- The longitudes at which the signal is read: one for each input and output longitude. -/
def lons : IVec S128x64x1 32 :=
  broadcastInDim S128x64x1 ![0, 1] bcast_S128x64_S128x64x1_0_1
    (select (cmpi .slt turn (broadcastInDim S128x64 ![] bcast_S_S128x64 (constantI S_ 32 0#32)))
      (addi turn (broadcastInDim S128x64 ![] bcast_S_S128x64 (constantI S_ 32 128#32))) turn)

/-- The weighted signal with batch and channel merged. -/
def scaled (x : FVec Ideal S2x64x64x128 .f32) (quad : FVec Ideal S64x1 .f32) : FVec Ideal S128x64x128 .f32 :=
  shapeCast S128x64x128
    (mulf (broadcastInDim S2x64x64x128 ![0, 1, 2, 3] bcast_S1x1x64x1_S2x64x64x128_0_1_2_3
      (broadcastInDim S1x1x64x1 ![2, 3] bcast_S64x1_S1x1x64x1_2_3 quad)) x) shapeCasts_S2x64x64x128_S128x64x128

/-- The signal turned to each output longitude, latitude and longitude merged. -/
def turned (x : FVec Ideal S2x64x64x128 .f32) (quad : FVec Ideal S64x1 .f32) : FVec Ideal S128x8192x64 .f32 :=
  shapeCast S128x8192x64
    (Host.gather gather_S128x64x128_S128x64x1_S128x64x128x64_01_2_n_n_2_2_128641 (scaled x quad) lons)
    shapeCasts_S128x64x128x64_S128x8192x64

/-- The contraction with the filter. -/
def contracted (x : FVec Ideal S2x64x64x128 .f32) (psi : FVec Ideal S3x32x8192 .f32) (quad : FVec Ideal S64x1 .f32) :
    FVec Ideal S2x64x3x32x64 .f32 :=
  shapeCast S2x64x3x32x64
    (transpose S128x3x32x64 [0, 2, 3, 1]
      (Host.dotGeneral dot_S128x8192x64_S3x32x8192_S128x64x3x32_1_2_02_01_n_n none (turned x quad) psi)
      transposes_S128x64x3x32_S128x3x32x64_0_2_3_1) shapeCasts_S128x3x32x64_S2x64x3x32x64

/-- The whole reference. -/
def result (x : FVec Ideal S2x64x64x128 .f32) (psi : FVec Ideal S3x32x8192 .f32) (quad : FVec Ideal S64x1 .f32)
    (weight : FVec Ideal S64x64x3 .f32) (bias : FVec Ideal S64 .f32) : FVec Ideal S2x64x32x64 .f32 :=
  addf (transpose S2x64x32x64 [1, 0, 2, 3]
      (Host.dotGeneral dot_S64x64x3_S2x64x3x32x64_S64x2x32x64_12_12_0_034_n_n none weight (contracted x psi quad))
      transposes_S64x2x32x64_S2x64x32x64_1_0_2_3)
    (broadcastInDim S2x64x32x64 ![0, 1, 2, 3] bcast_S1x64x1x1_S2x64x32x64_0_1_2_3
      (shapeCast S1x64x1x1 bias shapeCasts_S64_S1x64x1x1))

/-- The longitude that output longitude `p` meets at filter longitude `l`: `l + 2 p` modulo 128. -/
def ahead (p : Fin 64) (l : Fin 128) : Fin 128 := ⟨(l.val + 2 * p.val) % 128, Nat.mod_lt _ (by decide)⟩

/-- The longitudes read are `l + 2 p` modulo 128. -/
theorem lons_apply (l : Fin 128) (p : Fin 64) : lons (ix3 l p 0) = BitVec.ofNat 32 (ahead p l).val := by
  revert l p; decide +kernel

/-- The gathered signal. -/
theorem gather_apply (x : FVec Ideal S128x64x128 .f32) (i : Fin 128) (h : Fin 64) (l : Fin 128) (p : Fin 64) :
    Host.gather gather_S128x64x128_S128x64x1_S128x64x128x64_01_2_n_n_2_2_128641 x lons (ix4 i h l p) =
      x (ix3 i h (ahead p l)) := by
  unfold Host.gather
  refine congrArg x (funext fun a => Fin.ext ?_)
  fin_cases a
  · show 0 + 0 + i.val = i.val; omega
  · show 0 + 0 + h.val = h.val; omega
  · show min (lons _).toInt.toNat 127 + 0 + 0 = (ahead p l).val
    have e : ∀ j : S128x64x1.Idx, j = ix3 l p 0 → min (lons j).toInt.toNat 127 + 0 + 0 = (ahead p l).val := by
      rintro _ rfl
      rw [lons_apply]
      have := (ahead p l).isLt
      rw [BitVec.toInt_eq_toNat_of_lt (by simp; omega)]
      simp; omega
    refine e _ (funext fun b => Fin.ext ?_)
    fin_cases b <;> rfl

/-- The turned signal at channel `(b, c)`, latitude and longitude `n`, output longitude `p`. -/
theorem turned_apply (x : FVec Ideal S2x64x64x128 .f32) (quad : FVec Ideal S64x1 .f32) (b : Fin 2) (c : Fin 64)
    (n : Fin 8192) (p : Fin 64) :
    turned x quad (ix3 ⟨b.val * 64 + c.val, by omega⟩ n p) =
      quad (ix2 ⟨n.val / 128, by omega⟩ 0) * x (ix4 b c ⟨n.val / 128, by omega⟩ (ahead p ⟨n.val % 128, by omega⟩)) := by
  pointwise [turned, gather_apply, scaled]

/-- The contraction at an index. -/
theorem contracted_apply (x : FVec Ideal S2x64x64x128 .f32) (psi : FVec Ideal S3x32x8192 .f32) (quad : FVec Ideal S64x1 .f32)
    (b : Fin 2) (c : Fin 64) (k : Fin 3) (t : Fin 32) (p : Fin 64) :
    contracted x psi quad (ix5 b c k t p) = ∑ n : Fin 8192,
      (quad (ix2 ⟨n.val / 128, by omega⟩ 0) * x (ix4 b c ⟨n.val / 128, by omega⟩ (ahead p ⟨n.val % 128, by omega⟩)))
        * psi (ix3 k t n) := by
  pointwise [contracted, turned_apply]

/-- The reference at an index. -/
theorem result_apply (x : FVec Ideal S2x64x64x128 .f32) (psi : FVec Ideal S3x32x8192 .f32) (quad : FVec Ideal S64x1 .f32)
    (weight : FVec Ideal S64x64x3 .f32) (bias : FVec Ideal S64 .f32) (b : Fin 2) (f : Fin 64) (t : Fin 32) (p : Fin 64) :
    result x psi quad weight bias (ix4 b f t p) = (∑ c : Fin 64, ∑ k : Fin 3, weight (ix3 f c k) * ∑ n : Fin 8192,
      (quad (ix2 ⟨n.val / 128, by omega⟩ 0) * x (ix4 b c ⟨n.val / 128, by omega⟩ (ahead p ⟨n.val % 128, by omega⟩)))
        * psi (ix3 k t n)) + bias (ix1 f) := by
  pointwise [result, contracted_apply]

end Cert.ReferenceIdeal.Reading

end
-- ==== Proof.Local.lean ====
module

public import proofs.«01_k».proof.Proof.Gen.Pre_psi_is_local
public import Idealize.ShloMosaic.Lib.Pointwise
public import Idealize.ShloMosaic.PureOps.Ideal

@[expose] public section

set_option maxRecDepth 16384

noncomputable section

namespace Cert.Pre_psi_is_local.Reading

open Idealize.ShloMosaic
open Cert.Pre_psi_is_local Cert.Pre_psi_is_local.Gen

/-- The first input latitude that output latitude `t` reads, as the predicate computes it. -/
def first : IVec S1x32x1x1 32 :=
  maxsi (minsi (subi (muli (broadcastInDim S1x32x1x1 ![] bcast_S_S1x32x1x1 (constantI S_ 32 2#32)) (iotaInDim S1x32x1x1 32 1))
      (broadcastInDim S1x32x1x1 ![] bcast_S_S1x32x1x1 (constantI S_ 32 2#32)))
      (broadcastInDim S1x32x1x1 ![] bcast_S_S1x32x1x1 (constantI S_ 32 58#32)))
    (broadcastInDim S1x32x1x1 ![] bcast_S_S1x32x1x1 (constantI S_ 32 0#32))

/-- Which input latitudes each output latitude reads. -/
def near : IVec S1x32x64x1 1 :=
  andi (cmpi .sge (broadcastInDim S1x32x64x1 ![0, 1, 2, 3] bcast_S1x1x64x1_S1x32x64x1_0_1_2_3 (iotaInDim S1x1x64x1 32 2))
      (broadcastInDim S1x32x64x1 ![0, 1, 2, 3] bcast_S1x32x1x1_S1x32x64x1_0_1_2_3 first))
    (cmpi .slt (broadcastInDim S1x32x64x1 ![0, 1, 2, 3] bcast_S1x1x64x1_S1x32x64x1_0_1_2_3 (iotaInDim S1x1x64x1 32 2))
      (broadcastInDim S1x32x64x1 ![0, 1, 2, 3] bcast_S1x32x1x1_S1x32x64x1_0_1_2_3
        (addi first (broadcastInDim S1x32x1x1 ![] bcast_S_S1x32x1x1 (constantI S_ 32 6#32)))))

/-- An input latitude outside the six that an output latitude reads is not near it. -/
theorem near_apply (t : Fin 32) (h : Fin 64)
    (out : h.val < min (2 * t.val - 2) 58 ∨ min (2 * t.val - 2) 58 + 6 ≤ h.val) : near (ix4 0 t h 0) = 0#1 := by
  revert t h; decide +kernel

/-- Where the predicate holds, the filter is zero at every input latitude outside the six read. -/
theorem zero_outside (x : FVec Ideal S2x64x64x128 .f32) (psi : FVec Ideal S3x32x8192 .f32) (quad : FVec Ideal S64x1 .f32)
    (weight : FVec Ideal S64x64x3 .f32) (bias : FVec Ideal S64 .f32)
    (holds : fn (F := Ideal) x psi quad weight bias = fun _ => 1#1) (k : Fin 3) (t : Fin 32) (h : Fin 64) (l : Fin 128)
    (out : h.val < min (2 * t.val - 2) 58 ∨ min (2 * t.val - 2) 58 + 6 ≤ h.val) :
    psi (ix3 k t ⟨h.val * 128 + l.val, by omega⟩) = 0 := by
  have here : ori (broadcastInDim S3x32x64x128 ![0, 1, 2, 3] bcast_S1x32x64x1_S3x32x64x128_0_1_2_3 near)
      (cmpf .oeq (shapeCast S3x32x64x128 psi shapeCasts_S3x32x8192_S3x32x64x128)
        (broadcastInDim S3x32x64x128 ![] bcast_S_S3x32x64x128 (constant (F := Ideal) S_ .f32 0x00000000#32))) (ix4 k t h l) = 1#1 :=
    congrFun holds (ix4 k t h l)
  pointwise [near_apply t h out] at here
  by_contra ne
  rw [decide_eq_false ne] at here
  exact absurd here (by decide)

end Cert.Pre_psi_is_local.Reading

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_psi_is_local
public import proofs.«01_k».proof.Proof.Gen.Pre_psi_is_local
public import proofs.«01_k».proof.Proof.Final
public import proofs.«01_k».proof.Proof.Reference
public import proofs.«01_k».proof.Proof.Local
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's result array is the reference's, where the filter is zero outside the latitudes read. -/
theorem meets (m : (ℓ : Loc Cert.KernelIdeal.nD Cert.KernelIdeal.τ Cert.KernelIdeal.sig) → Buf (Elt Ideal) ℓ)
    (hpre : Cert.Pre_KernelIdeal_psi_is_local m) (c : Dev Cert.KernelIdeal.nD) :
    Cert.ReferenceIdeal.Reading.result (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg4)) =
    Pipeline.afterTail₀ Cert.KernelIdeal.cfgs (Cert.KernelIdeal.Gen.dats m) 0 (Cert.KernelIdeal.Gen.V0 m)
      [Cert.KernelIdeal.Gen.hostOps1] c Cert.KernelIdeal.main_v38 := by
  refine funext fun (i : Cert.ReferenceIdeal.S2x64x32x64.Idx) => ?_
  rw [eq_ix4 i]
  refine (Cert.ReferenceIdeal.Reading.result_apply _ _ _ _ _ (i 0) (i 1) (i 2) (i 3)).trans ?_
  exact (Cert.KernelIdeal.Final.result_apply m c
    (Cert.Pre_psi_is_local.Reading.zero_outside _ _ _ _ _ (hpre c)) (i 0) (i 1) (i 2) (i 3)).symm

/-- The idealized kernel and the reference leave equal results. -/
theorem algebraic : Cert.algebraic_KernelIdeal_ReferenceIdeal_pre_psi_is_local := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
    · exact Cert.KernelIdeal.Gen.W_main_arg2 m (Cert.KernelIdeal.Gen.dats m) c
    · exact Cert.KernelIdeal.Gen.W_main_arg3 m (Cert.KernelIdeal.Gen.dats m) c
    · exact Cert.KernelIdeal.Gen.W_main_arg4 m (Cert.KernelIdeal.Gen.dats m) c
  · run_from Cert.ReferenceIdeal.Value.run m' g'
    exact meets m hpre c

/-- The reference leaves its arguments unchanged and every counter at zero (it has none). -/
theorem reference : Cert.quiescent_ReferenceIdeal := by
  intro m g _
  run_from Cert.ReferenceIdeal.Value.run m g
  · exact fun _ => ⟨trivial, trivial, trivial, trivial, trivial⟩
  · exact sem_eq_zero_of_no_sems (sig := Cert.ReferenceIdeal.sig) (by decide) _

/-- Everything claimed: the runs, the idealization, the equality with the reference. -/
theorem claim : Cert.Claim := ⟨Cert.Kernel.Gen.facts, Cert.KernelIdeal.Gen.facts, Cert.ReferenceIdeal.Gen.facts, Cert.Pre_psi_is_local.Gen.facts,
  fun m g _ => Cert.Kernel.Gen.frame m g, fun m g _ => Cert.KernelIdeal.Gen.frame m g,
  fun m g _ => Cert.KernelIdeal.Gen.frame m g, reference, fun m g _ => reference m g trivial, trivial, algebraic⟩

end Cert.Proof

end
